-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1024, 1]⟩ ⟨2, ![2048, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x1024 : Shape := ⟨2, ![1, 1024]⟩
abbrev S_ : Shape := ⟨0, ![]⟩
abbrev S1x512 : Shape := ⟨2, ![1, 512]⟩
abbrev S1024x1 : Shape := ⟨2, ![1024, 1]⟩

abbrev nBuf : Space → Nat
  | .hbm => 3
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1x1024, .f32⟩
  | .hbm, ⟨2, _⟩ => ⟨S1024x1, .f32⟩
  | .local _ .vmem, ⟨0, _⟩ => ⟨S1024x512, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v19 : BitVec 32 := Scalar.muli v2 c2_i32_11
  let v20 : BitVec 32 := Scalar.addi c0_i32_12 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_13 : BitVec 32 := 1#32
  let v21 : BitVec 32 := Scalar.muli v6 c1_i32_13
  let v22 : BitVec 32 := Scalar.addi v20 v21
  v22.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S2048, .f32⟩
  | .hbm, ⟨3, _⟩ => ⟨S2048x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Protocol.lean ====
/-
  The exchange two neighbouring devices of the mesh perform, as a schedule of payments.

  The mesh is two by two, and a device trades its partial row sums with the other device of its mesh row, its `peer`.
  Three semaphores of each device take part, one payment each:

    entry  (regular)  the peer says it has entered the kernel, and lends its receive buffer;
    sent   (DMA)      the device's own transfer has read the send buffer, which comes back;
    landed (DMA)      the peer's transfer has filled the device's receive buffer, which comes back filled.

  Everything about the three is stated once, over a `Role`.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Tactic

@[expose] public section

noncomputable section

namespace Cert.RowSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state: one copy of the round algebra for the staging pipeline, one for the exchange. -/
abbrev Ghost : Type := UR sig nD τ × UR sig nD τ

local notation "𝕄" => MT nD τ sig Unit (Elt F) ℕ Ghost ℕ

/-- Where the staging pipeline's rounds live. -/
abbrev stagingG : Emb (UR sig nD τ) (MT nD τ sig Unit (Elt F) ℕ Ghost ℕ) := embL
/-- Where the exchange's rounds live. -/
abbrev tradeG : Emb (UR sig nD τ) (MT nD τ sig Unit (Elt F) ℕ Ghost ℕ) := embR

/-! ## The other device of the mesh row -/

/-- Devices 0 and 1 are peers, and devices 2 and 3. -/
def peer (c : Dev nD) : Dev nD := ⟨2 * (c.val / 2) + 1 - c.val % 2, by have h : c.val < 4 := c.isLt; show _ < 4; omega⟩

theorem peer_val (c : Dev nD) : (peer c).val = 2 * (c.val / 2) + 1 - c.val % 2 := rfl

/-- A device is its peer's peer. -/
theorem peer_peer (c : Dev nD) : peer (peer c) = c := by
  apply Fin.ext; rw [peer_val, peer_val]; omega

/-- Trading places with the peer, as a permutation of the devices. -/
def trade : Dev nD ≃ Dev nD := ⟨peer, peer, peer_peer, peer_peer⟩

/-- The two addresses the kernel computes, for its signal and for its transfer, are the peer's. -/
theorem addr_signal (c : Dev nD) : (⟨k0_dev1 c, k0_dev1_lt c⟩ : Dev nD) = peer c :=
  Fin.ext (by show k0_dev1 c = _; rw [k0_dev1_eq, peer_val])
theorem addr_transfer (c : Dev nD) : (⟨k0_dev2 c, k0_dev2_lt c⟩ : Dev nD) = peer c :=
  Fin.ext (by show k0_dev2 c = _; rw [k0_dev2_eq, peer_val])

/-! ## The three semaphores -/

/-- What a semaphore of the exchange is for. -/
inductive Role where
  | entry
  | sent
  | landed
  deriving DecidableEq

instance : Fintype Role := ⟨{.entry, .sent, .landed}, fun ρ => by cases ρ <;> decide⟩

/-- The semaphore serving a role. -/
def Role.sem : Role → SemLoc sig
  | .entry => .reg barrier0
  | .sent => .dma cc0_scratch2.sem
  | .landed => .dma cc0_scratch3.sem

/-- The role a semaphore serves, if any. -/
def roleOf (s : SemLoc sig) : Option Role :=
  if s = Role.entry.sem then some .entry
  else if s = Role.sent.sem then some .sent
  else if s = Role.landed.sem then some .landed
  else none

theorem roleOf_sem : ∀ ρ : Role, roleOf ρ.sem = some ρ := by decide

theorem sem_injective : Function.Injective Role.sem := fun ρ ρ' h =>
  Option.some.inj ((roleOf_sem ρ).symm.trans ((congrArg roleOf h).trans (roleOf_sem ρ')))

/-- A device's semaphore for a role. -/
abbrev cell (ρ : Role) (c : Dev nD) : GSem nD τ sig := ((c : Thread nD τ), ρ.sem)

theorem cell_inj {ρ ρ' : Role} {c c' : Dev nD} (h : cell ρ c = cell ρ' c') : ρ = ρ' ∧ c = c' :=
  ⟨sem_injective (congrArg Prod.snd h), congrArg (fun g : GSem nD τ sig => g.1.1) h⟩

/-! ## Buffers and what they hold -/

/-- The send buffer and the receive buffer. -/
abbrev outM : Memref sig .tc .vmem S1x1024 .f32 := Memref.whole cc0_scratch0
abbrev inM : Memref sig .tc .vmem S1x1024 .f32 := Memref.whole cc0_scratch1

/-- What a transfer of the buffer pays. -/
abbrev rowCredit : ℕ := (inM : Memref sig .tc .vmem S1x1024 .f32).view.dmaCredit
theorem rowCredit_pos : 0 < rowCredit := View.dmaCredit_pos _ (by decide)

variable (m : (ℓ : Loc nD τ sig) → Buf (Elt F) ℓ)

/-- Device `c`'s block of the argument. -/
abbrev blockAt (c : Dev nD) : Vec F S1024x512 .f32 := m ((c : Thread nD τ).loc main_arg0)

/-- Device `c`'s partial row sums: the payload its kernel computes from its block. -/
abbrev partAt (c : Dev nD) : Vec F S1x1024 .f32 := k0_pay2 (blockAt m c)

/-- Device `c`'s result: its own partial row sums and its peer's, added. -/
abbrev sumAt (c : Dev nD) : Vec F S1x1024 .f32 := k0_pay1 (partAt m c) (partAt m (peer c))

/-- Device `c`'s send buffer at a share, holding `f`. -/
abbrev outPts (c : Dev nD) (q : PosShare TreeShare) (f : Buf (Elt F) ((outM : Memref sig .tc .vmem S1x1024 .f32).view.loc (c : Thread nD τ))) : sProp 𝕄 :=
  (outM : Memref sig .tc .vmem S1x1024 .f32).view.loc (c : Thread nD τ) ↦[(outM : Memref sig .tc .vmem S1x1024 .f32).view.set]{q} f
/-- Device `c`'s receive buffer, holding `f`. -/
abbrev inPts (c : Dev nD) (f : Buf (Elt F) ((inM : Memref sig .tc .vmem S1x1024 .f32).view.loc (c : Thread nD τ))) : sProp 𝕄 :=
  (inM : Memref sig .tc .vmem S1x1024 .f32).view.loc (c : Thread nD τ) ↦[(inM : Memref sig .tc .vmem S1x1024 .f32).view.set]{fullShare} f

/-- A view of the whole send buffer owns the buffer's whole points-to; the receive buffer's likewise. -/
theorem outPts_eq (c : Dev nD) (q : PosShare TreeShare) (f : Buf (Elt F) ((c : Thread nD τ).loc cc0_scratch0)) :
    outPts c q f = (((c : Thread nD τ).loc cc0_scratch0) ↦{q} f : sProp 𝕄) := by
  unfold outPts; rw [show (outM : Memref sig .tc .vmem S1x1024 .f32).view.set = Finset.univ from View.set_whole _]
theorem inPts_eq (c : Dev nD) (f : Buf (Elt F) ((c : Thread nD τ).loc cc0_scratch1)) :
    inPts c f = (((c : Thread nD τ).loc cc0_scratch1) ↦{fullShare} f : sProp 𝕄) := by
  unfold inPts; rw [show (inM : Memref sig .tc .vmem S1x1024 .f32).view.set = Finset.univ from View.set_whole _]

/-- A transfer of the whole send buffer leaves its contents in the receive buffer. -/
theorem transferred (old : (cc0_scratch1 : Ref sig .tc).ty.Contents (Elt F)) (new : (cc0_scratch0 : Ref sig .tc).ty.Contents (Elt F)) :
    (inM : Memref sig .tc .vmem S1x1024 .f32).view.write (Elt F) old ((outM : Memref sig .tc .vmem S1x1024 .f32).view.read (Elt F) new) Finset.univ = new := by
  show (View.whole cc0_scratch1).write (Elt F) old ((View.whole cc0_scratch0).read (Elt F) new) Finset.univ = new
  rw [View.read_whole]; exact View.write_whole_univ _ _ _

/-! ## The schedule -/

/-- Units a payment carries: one for the signal, a row's worth of bytes for a transfer. -/
def Role.credit : Role → ℕ
  | .entry => 1
  | .sent => rowCredit
  | .landed => rowCredit

theorem credit_pos : ∀ ρ : Role, 0 < ρ.credit
  | .entry => Nat.one_pos
  | .sent => rowCredit_pos
  | .landed => rowCredit_pos

/-- What comes with the payment to device `c`'s semaphore. The signal lends the peer's receive buffer and certifies
    that the semaphore counting arrivals in it is open. A transfer in flight keeps one half of the send buffer's share, the
    device reading through the other half meanwhile. -/
def payOf (c : Dev nD) : Role → sProp 𝕄
  | .entry => iprop((∃ f, inPts (peer c) f) ∗ reached tradeG (cell .landed (peer c)) 0)
  | .sent => outPts c fullShare.left (partAt m c)
  | .landed => inPts c (partAt m (peer c))

/-- One payment per semaphore of the exchange, in its round 0. -/
def plan : Rounds.Schedule (GSem nD τ sig) Unit 𝕄 where
  duties g r := if r = 0 ∧ g.1.2 = .tc ∧ (roleOf g.2).isSome then {()} else ∅
  unitless _ := False
  amount g _ _ := ((roleOf g.2).map Role.credit).getD 1
  payload g _ _ := ((roleOf g.2).map (payOf m g.1.1)).getD iprop(emp)
  amount_pos g _ _ _ := by
    cases roleOf g.2 with
    | none => exact Nat.one_pos
    | some ρ => exact credit_pos ρ

instance plan_storable (g : GSem nD τ sig) (r : ℕ) (d : Unit) :
    BI.Storable (upEmb : UEmb _ 𝕄) ((plan (F := F) m).payload g r d) := by
  show BI.Storable upEmb (((roleOf g.2).map (payOf m g.1.1)).getD iprop(emp))
  cases roleOf g.2 with
  | none => exact (inferInstance : BI.Storable (upEmb : UEmb _ 𝕄) iprop(emp))
  | some ρ =>
    show BI.Storable upEmb (payOf m g.1.1 ρ)
    cases ρ <;> unfold payOf <;> infer_instance

section AtARole

variable (ρ : Role) (c : Dev nD)

theorem due_at : (plan (F := F) m).duties (cell ρ c) 0 = {()} :=
  if_pos ⟨rfl, rfl, by rw [roleOf_sem]; rfl⟩

theorem mem_due : () ∈ (plan (F := F) m).duties (cell ρ c) 0 := by rw [due_at]; exact Finset.mem_singleton_self _

theorem due_later (g : GSem nD τ sig) (r : ℕ) (hr : 1 ≤ r) : (plan (F := F) m).duties g r = ∅ :=
  if_neg fun h => absurd h.1 (by omega)

theorem amount_at (u : Unit) : (plan (F := F) m).amount (cell ρ c) 0 u = ρ.credit := by
  show ((roleOf ρ.sem).map Role.credit).getD 1 = _
  rw [roleOf_sem]; rfl

theorem payload_at (u : Unit) : (plan (F := F) m).payload (cell ρ c) 0 u = payOf m c ρ := by
  show ((roleOf ρ.sem).map (payOf m c)).getD iprop(emp) = _
  rw [roleOf_sem]; rfl

/-- A semaphore's whole round is its one payment. -/
theorem expect_at : (plan (F := F) m).expect (cell ρ c) 0 = ρ.credit := by
  unfold Schedule.expect Schedule.amountOf; rw [due_at, Finset.sum_singleton, amount_at]

theorem collected (ρ : Role) (c : Dev nD) :
    bigSep ((plan (F := F) m).duties (cell ρ c) 0 \ ∅) (fun u => (plan (F := F) m).payload (cell ρ c) 0 u) = payOf m c ρ := by
  rw [Finset.sdiff_empty, due_at, bigSep_singleton, payload_at]

end AtARole

/-! ## Debts and levels -/

/-- What device `c` owes from the launch on: the arrival of its row at the peer, and the peer's entry signal. -/
def debt (c : Dev nD) : CellTallies nD τ sig Unit :=
  tallyAt (cell .landed (peer c)) () rowCredit + tallyAt (cell .entry (peer c)) () 1

/-- Every TensorCore semaphore has a level. -/
def ixOf (g : GSem nD τ sig) : Finset Unit := if g.1.2 = .tc then {()} else ∅

/-- A device waits for its entry signal while it still owes an arrival: arrivals sit above entries, everything else below. -/
def levelOf (g : GSem nD τ sig) (_ : Unit) : ℕ :=
  match roleOf g.2 with
  | some .entry => 1
  | some .landed => 2
  | _ => 0

theorem ixOf_of_ne (g : GSem nD τ sig) (h : g.1.2 ≠ .tc) : ixOf g = ∅ := if_neg h
theorem mem_ixOf (c : Dev nD) (s : SemLoc sig) : () ∈ ixOf ((c : Thread nD τ), s) := by
  rw [show ixOf ((c : Thread nD τ), s) = {()} from if_pos rfl]; exact Finset.mem_singleton_self _

theorem level_entry (c : Dev nD) : levelOf (cell .entry c) () = 1 := by
  unfold levelOf; rw [show roleOf (cell .entry c).2 = some .entry from roleOf_sem .entry]
theorem level_landed (c : Dev nD) : levelOf (cell .landed c) () = 2 := by
  unfold levelOf; rw [show roleOf (cell .landed c).2 = some .landed from roleOf_sem .landed]

/-- A positive tally at one place is a tally of that place. -/
theorem tallyAt_pos {g h : GSem nD τ sig} {u : Unit} {k : ℕ} (hp : 0 < (tallyAt g () k : CellTallies nD τ sig Unit) h u) : h = g := by
  by_contra hne
  rw [tallyAt_apply, if_neg (fun e => hne e.1)] at hp
  exact absurd hp (Nat.lt_irrefl 0)

/-- A device owes only its peer's arrival and its peer's entry. -/
theorem debt_pos {c : Dev nD} {g : GSem nD τ sig} {u : Unit} (h : 0 < debt c g u) :
    g = cell .landed (peer c) ∨ g = cell .entry (peer c) := by
  unfold debt at h
  rw [Pi.add_apply, Finsupp.add_apply] at h
  rcases Nat.add_pos_iff_pos_or_pos.mp h with h | h
  · exact .inl (tallyAt_pos h)
  · exact .inr (tallyAt_pos h)

/-- So whatever it owes has a level, and a positive one. -/
theorem debt_level {c : Dev nD} {g : GSem nD τ sig} {u : Unit} (h : 0 < debt c g u) : u ∈ ixOf g ∧ 0 < levelOf g u := by
  rcases debt_pos h with rfl | rfl
  · exact ⟨mem_ixOf _ _, by rw [level_landed]; decide⟩
  · exact ⟨mem_ixOf _ _, by rw [level_entry]; decide⟩

/-- Owing only the arrival, a device may wait for its entry signal. -/
theorem may_wait_entry (c : Dev nD) :
    (levAts ixOf levelOf : sProp 𝕄) ⊢ MayWait (c : Thread nD τ) Role.entry.sem () (tallyAt (cell .landed (peer c)) () rowCredit) :=
  MayOwe.of_cut (L := ixOf) (lev := levelOf) 1
    (fun p hp => by rw [Finset.mem_singleton.mp hp]; exact mem_ixOf _ _)
    (fun g u hg => by rw [tallyAt_pos hg]; exact mem_ixOf _ _)
    (fun p hp => by rw [Finset.mem_singleton.mp hp]; exact (level_entry c).le)
    (fun g u hg => by rw [tallyAt_pos hg]; exact (by decide : 1 < 2).trans_eq (level_landed _).symm)

end Cert.RowSum

end
-- ==== Proof.Body.lean ====
/-
  One device's kernel, run: it signals its peer, sums its block's rows, waits for the peer's signal, sends the sums across,
  and adds what arrives to them.

  The program's communication is covered by four steps over any continuation (`step_signal`, `step_collect`, `step_transfer`,
  `close_cell`); `exchange_run` chains them with the kernel's loads and stores.
-/
module

public import proofs.«01_k».proof.Proof.Protocol

@[expose] public section

noncomputable section

namespace Cert.RowSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (m : (ℓ : Loc nD τ sig) → Buf (Elt F) ℓ)

abbrev 𝒱₀ : Variants := Variants.none

/-- Device `c` runs the program `p` to a state where `Q` holds. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every device may consult -/

/-- Where the invariant of each semaphore of the exchange is kept. -/
abbrev Names : Type := GSem nD τ sig → ℕ

/-- Every semaphore of the exchange follows the schedule, and every device's entry semaphore is open. -/
def known (κ : Names) : sProp 𝕄 :=
  iprop((bigSep Finset.univ fun x : Dev nD × Role => cellInv tradeG (plan m) (κ (cell x.2 x.1)) (cell x.2 x.1))
    ∗ bigSep Finset.univ fun c : Dev nD => reached tradeG (cell .entry c) 0)

instance known_persistent (κ : Names) : BI.Persistent (known m κ) := by unfold known; infer_instance

variable (κ : Names)

theorem known_inv (ρ : Role) (c : Dev nD) : known m κ ⊢ cellInv tradeG (plan m) (κ (cell ρ c)) (cell ρ c) := by
  unfold known
  iintro ⟨H, -⟩
  iapply (show (bigSep Finset.univ fun x : Dev nD × Role => (cellInv tradeG (plan m) (κ (cell x.2 x.1)) (cell x.2 x.1) : sProp 𝕄))
    ⊢ cellInv tradeG (plan m) (κ (cell ρ c)) (cell ρ c) from bigSep_elim (Finset.mem_univ (c, ρ)))
  iexact H

theorem known_entry (c : Dev nD) : known m κ ⊢ reached tradeG (cell .entry c) 0 := by
  unfold known
  iintro ⟨-, H⟩
  iapply (show (bigSep Finset.univ fun c : Dev nD => (reached tradeG (cell .entry c) 0 : sProp 𝕄))
    ⊢ reached tradeG (cell .entry c) 0 from bigSep_elim (Finset.mem_univ c))
  iexact H

/-! ## The four steps -/

/-- The entry signal: the device pays its peer's entry semaphore with its own receive buffer on loan. -/
theorem step_signal {α : Type} (c n : Dev nD) (hn : n = peer c) (W : Waits sig Unit) {amt : ℤ} (hamt : amt = 1)
    {k : PUnit → Prog (TpuEff nD τ sig (Elt F) Λ₀ .tc) α} {Q : α → sProp 𝕄} :
    iprop(known m κ ∗ owes (c : Thread nD τ) (debt c) W ∗ dutyTok tradeG (cell .entry (peer c)) 0 ()
        ∗ (∃ f, inPts c f) ∗ reached tradeG (cell .landed c) 0)
      ⊢ iprop((owes (c : Thread nD τ) (tallyAt (cell .landed (peer c)) () rowCredit) W -∗ runs c (k ⟨⟩) Q)
          -∗ runs c (.op (.semSignal ((n : Dev nD), .tc) barrier0 amt) k) Q) := by
  subst hn hamt
  have lend : payOf m (peer c) .entry ⊢ (plan m).payload ((peer c : Thread nD τ), SemLoc.reg barrier0) 0 () :=
    Entails.of_eq (payload_at m .entry (peer c) ()).symm
  iintro ⟨#HK, HO, Ht, Hin, #Hr⟩
  iapply (Rounds.wp_signal 𝒱₀ tradeG (plan m) (c : Thread nD τ) none (dst := (peer c : Thread nD τ)) (sem := barrier0)
    (r := 0) (d := ()) (k' := 1) (κ := κ (cell .entry (peer c))) (mem_due m .entry (peer c)) (amount_at m .entry (peer c) ()) ()
    (O₀ := debt c) (tallyAt (cell .landed (peer c)) () rowCredit) rfl (W := W) (k := k) (Q := Q)) $$ [HO Ht Hin]
  isplitr; · iapply (known_inv m κ .entry (peer c)); iexact HK
  isplitl [HO]; · iexact HO
  isplitl [Ht]; · iexact Ht
  isplitl [Hin]
  · iapply lend
    unfold payOf; rw [peer_peer]
    isplitl [Hin]; · iexact Hin
    iexact Hr
  iapply (known_entry m κ (peer c)); iexact HK

/-- A wait for a payment: the device takes what came with it. -/
theorem step_collect {α : Type} (ρ : Role) (c : Dev nD) (O : CellTallies nD τ sig Unit) (W : Waits sig Unit)
    {w : TpuEff nD τ sig (Elt F) Λ₀ .tc PUnit} {n : ℕ} (hn : n = ρ.credit)
    (hw : ∀ K : PUnit → sProp 𝕄, wpE (defs₀ (F := F)) 𝒱₀ (c : Thread nD τ) none Set.univ w K = waitSpec (c : Thread nD τ) Set.univ ρ.sem n K)
    {k : PUnit → Prog (TpuEff nD τ sig (Elt F) Λ₀ .tc) α} {Q : α → sProp 𝕄} :
    iprop(known m κ ∗ cred (tallyAt (cell ρ c) () ρ.credit) ∗ owes (c : Thread nD τ) O W
        ∗ MayWait (c : Thread nD τ) ρ.sem () O ∗ atPos tradeG (cell ρ c) 0 ∅ 0)
      ⊢ iprop(((owes (c : Thread nD τ) O (insert (ρ.sem, ()) W) ∗ atPos tradeG (cell ρ c) 1 ∅ 0 ∗ payOf m c ρ) -∗ runs c (k ⟨⟩) Q)
          -∗ runs c (.op w k) Q) := by
  subst hn
  iintro ⟨#HK, Hc, HO, Hm, Hat⟩ Hk
  iapply (Rounds.wp_wait_rest_token 𝒱₀ tradeG (plan m) (c : Thread nD τ) none (κ := κ (cell ρ c)) hw (Set.mem_univ _) ()
    (O := O) (W := W) (R := 0) (m := 0) (T := ∅) ((Nat.zero_add _).trans (expect_at m ρ c).symm)) $$ [Hc HO Hm Hat]
  · isplitr; · iapply (known_inv m κ ρ c); iexact HK
    isplitl [Hc]; · iexact Hc
    isplitl [HO]; · iexact HO
    isplitl [Hm]; · iexact Hm
    iexact Hat
  iintro ⟨HO, Hat, -, Hpay⟩
  iapply Hk
  isplitl [HO]; · iexact HO
  isplitl [Hat]; · iexact Hat
  iapply (Entails.of_eq (collected m ρ c)) $$ Hpay

/-- The transfer: the row of sums, read from the send buffer at half its share, goes into the peer's receive buffer. -/
theorem step_transfer {α : Type} (c n : Dev nD) (hn : n = peer c) (W : Waits sig Unit)
    {hsc : (inM : Memref sig (Dev.tc n : Thread nD τ).2.kind .vmem S1x1024 .f32).view.ref.isScScratch = false}
    {hsrc : (outM : Memref sig .tc .vmem S1x1024 .f32).view.WordExact} {hdst : (inM : Memref sig .tc .vmem S1x1024 .f32).view.WordExact}
    {hsem : DmaTarget.Typed .vmem (.dma cc0_scratch3.sem)
      (.remote (Dev.tc n : Thread nD τ) (inM : Memref sig .tc .vmem S1x1024 .f32) (.dma cc0_scratch2.sem) hsc)}
    {k : PUnit → Prog (TpuEff nD τ sig (Elt F) Λ₀ .tc) α} {Q : α → sProp 𝕄} :
    iprop(known m κ ∗ outPts c fullShare.left (partAt m c) ∗ payOf m c .entry
        ∗ owes (c : Thread nD τ) (tallyAt (cell .landed (peer c)) () rowCredit) W
        ∗ dutyTok tradeG (cell .sent c) 0 () ∗ reached tradeG (cell .sent c) 0 ∗ dutyTok tradeG (cell .landed (peer c)) 0 ())
      ⊢ iprop(((cred (tallyAt (cell .sent c) () rowCredit) ∗ owes (c : Thread nD τ) (0 : CellTallies nD τ sig Unit) W) -∗ runs c (k ⟨⟩) Q)
          -∗ runs c (.op (.enqueueDma outM (.remote (Dev.tc n : Thread nD τ) inM (.dma cc0_scratch2.sem) hsc) (.dma cc0_scratch3.sem) hsrc hdst hsem) k) Q) := by
  subst hn
  iintro ⟨#HK, Hout, Hpay, HO, HtS, #HrS, HtL⟩
  unfold payOf
  icases Hpay with ⟨⟨%old, Hin⟩, #HrL⟩
  iapply (Rounds.wp_send_pointsTo 𝒱₀ tradeG (plan m) (c : Thread nD τ) none (c' := (peer c : Thread nD τ)) (src := outM) (dst := inM)
    (sS := .dma cc0_scratch2.sem) (sem := .dma cc0_scratch3.sem) (q := fullShare.left) (fs := partAt m c) (fd := old)
    (κ₁ := κ (cell .sent c)) (κ₂ := κ (cell .landed (peer c))) (r₁ := 0) (r₂ := 0) (d₁ := ()) (d₂ := ())
    (mem_due m .sent c) (mem_due m .landed (peer c)) () () rowCredit rfl (amount_at m .sent c ()) (amount_at m .landed (peer c) ())
    (O₀ := tallyAt (cell .landed (peer c)) () rowCredit) 0 (by rw [zero_add]; rfl) (W := W)
    (Entails.of_eq (payload_at m .sent c ()).symm)
    (Entails.of_eq (by
      refine Eq.trans ?_ (payload_at m .landed (peer c) ()).symm
      unfold payOf inPts; rw [transferred, peer_peer]))) $$ [Hout Hin HO HtS HtL]
  isplitr; · iapply (known_inv m κ .sent c); iexact HK
  isplitr; · iapply (known_inv m κ .landed (peer c)); iexact HK
  isplitl [Hout]; · iexact Hout
  isplitl [Hin]; · iexact Hin
  isplitl [HO]; · iexact HO
  isplitl [HtS]; · iexact HtS
  isplitr; · iexact HrS
  isplitl [HtL]; · iexact HtL
  iexact HrL

/-- A semaphore whose payment has been collected is handed back, at zero. -/
theorem close_cell (ρ : Role) (c : Dev nD) :
    iprop(known m κ ∗ atPos tradeG (cell ρ c) 1 ∅ 0) ⊢ (|={Set.univ}=> semVal (cell ρ c) 0 : sProp 𝕄) := by
  iintro ⟨#HK, Hat⟩
  iapply (Rounds.cell_close tradeG (plan m) (Set.mem_univ (κ (cell ρ c))) id (due_later m (cell ρ c))) $$ [Hat]
  isplitr; · iapply (known_inv m κ ρ c); iexact HK
  iexact Hat

/-! ## Whole-buffer loads and stores -/

theorem corner : (![0, 0] : Fin 2 → Nat) = fun _ => 0 := funext fun a => by fin_cases a <;> rfl

/-- The whole rectangle of a row, and of a block. -/
abbrev rowRect : Rect S1x1024 := Rect.unit (s := S1x1024) ![0, 0] S1x1024.size inb_S1x1024_S1x1024_0_0
abbrev blockRect : Rect S1024x512 := Rect.unit (s := S1024x512) ![0, 0] S1024x512.size inb_S1024x512_S1024x512_0_0

abbrev argM : Memref sig .tc .vmem S1024x512 .f32 := Memref.whole cc0_stg0_0
abbrev resM : Memref sig .tc .vmem S1x1024 .f32 := Memref.whole cc0_stg1_0

theorem read_arg (f : (cc0_stg0_0 : Ref sig .tc).ty.Contents (Elt F)) :
    (argM : Memref sig .tc .vmem S1024x512 .f32).view.readAt (Elt F) blockRect.toLoadRect f = f :=
  Memref.readAt_unit_zero (Elt F) cc0_stg0_0 corner _ f
theorem read_out (f : (cc0_scratch0 : Ref sig .tc).ty.Contents (Elt F)) :
    (outM : Memref sig .tc .vmem S1x1024 .f32).view.readAt (Elt F) rowRect.toLoadRect f = f :=
  Memref.readAt_unit_zero (Elt F) cc0_scratch0 corner _ f
theorem read_in (f : (cc0_scratch1 : Ref sig .tc).ty.Contents (Elt F)) :
    (inM : Memref sig .tc .vmem S1x1024 .f32).view.readAt (Elt F) rowRect.toLoadRect f = f :=
  Memref.readAt_unit_zero (Elt F) cc0_scratch1 corner _ f
theorem write_out (f w : (cc0_scratch0 : Ref sig .tc).ty.Contents (Elt F)) :
    ((outM : Memref sig .tc .vmem S1x1024 .f32).access rowRect : View sig .tc _ _ _).write (Elt F) f w Finset.univ = w :=
  Memref.write_access_unit_zero_univ (Elt F) cc0_scratch0 corner _ f w
theorem write_res (f w : (cc0_stg1_0 : Ref sig .tc).ty.Contents (Elt F)) :
    ((resM : Memref sig .tc .vmem S1x1024 .f32).access rowRect : View sig .tc _ _ _).write (Elt F) f w Finset.univ = w :=
  Memref.write_access_unit_zero_univ (Elt F) cc0_stg1_0 corner _ f w

/-- Both scratch buffers hold a row, so a wait measured by either waits for the same. -/
theorem out_credit : (outM : Memref sig .tc .vmem S1x1024 .f32).view.dmaCredit = Role.sent.credit := rfl

/-- One device's send buffer at the whole share is its two halves. -/
theorem halves (c : Dev nD) (f : Buf (Elt F) ((c : Thread nD τ).loc cc0_scratch0)) :
    (outPts c fullShare f : sProp 𝕄) ⊣⊢ iprop(outPts c fullShare.left f ∗ outPts c fullShare.right f) :=
  pointsTo_share (PosShare.mem_left_op_right fullShare)

/-! ## The kernel -/

/-- The kernel on its staging buffers and scratch. -/
abbrev kernelProg : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

/-- Device `c`'s standing at its three semaphores, the payments it is to make, and the payments it may count on. -/
def standing (c : Dev nD) : sProp 𝕄 :=
  iprop((atPos tradeG (cell .entry c) 0 ∅ 0 ∗ atPos tradeG (cell .sent c) 0 ∅ 0 ∗ atPos tradeG (cell .landed c) 0 ∅ 0)
    ∗ (reached tradeG (cell .sent c) 0 ∗ reached tradeG (cell .landed c) 0)
    ∗ (dutyTok tradeG (cell .entry (peer c)) 0 () ∗ dutyTok tradeG (cell .landed (peer c)) 0 () ∗ dutyTok tradeG (cell .sent c) 0 ())
    ∗ (cred (tallyAt (cell .entry c) () 1) ∗ cred (tallyAt (cell .landed c) () rowCredit)))

/-- A TensorCore buffer of device `c`, whole, holding `f`. -/
abbrev holds (c : Dev nD) (b : Ref sig .tc) (f : Buf (Elt F) ((c : Thread nD τ).loc b)) : sProp 𝕄 :=
  ((c : Thread nD τ).loc b) ↦{fullShare} f
/-- … at some contents. -/
abbrev holdsSome (c : Dev nD) (b : Ref sig .tc) : sProp 𝕄 :=
  iprop(∃ f : Buf (Elt F) ((c : Thread nD τ).loc b), ((c : Thread nD τ).loc b) ↦{fullShare} f)

/-- The kernel's end: its three semaphores back at zero, both scratch buffers back, the block as it was, the sums stored,
    nothing owed. -/
def finished (c : Dev nD) : sProp 𝕄 :=
  iprop(semVal (cell .entry c) 0 ∗ semVal (cell .sent c) 0 ∗ semVal (cell .landed c) 0
    ∗ holdsSome c cc0_scratch0 ∗ holdsSome c cc0_scratch1 ∗ holds c cc0_stg0_0 (blockAt m c) ∗ holds c cc0_stg1_0 (sumAt m c)
    ∗ ∃ W, owes (c : Thread nD τ) (0 : CellTallies nD τ sig Unit) W)

set_option maxHeartbeats 1600000 in
/-- The kernel on device `c`, from its block staged, runs to the sum of its partial row sums and its peer's. -/
theorem exchange_run (c : Dev nD) (W : Waits sig Unit) (Kt : PUnit → sProp 𝕄) :
    iprop(known m κ ∗ standing c ∗ levAts ixOf levelOf ∗ holdsSome c cc0_scratch0 ∗ holdsSome c cc0_scratch1
        ∗ holds c cc0_stg0_0 (blockAt m c) ∗ holdsSome c cc0_stg1_0 ∗ owes (c : Thread nD τ) (debt c) W ∗ (finished m c -∗ Kt ⟨⟩))
      ⊢ runs c kernelProg Kt := by
  unfold runs kernelProg
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold standing
  iintro ⟨#HK, ⟨⟨HaE, HaS, HaL⟩, ⟨#HrS, #HrL⟩, ⟨HtE, HtL, HtS⟩, HcE, HcL⟩, #Hlev, ⟨%f0, Hout⟩, ⟨%f1, Hin⟩, Harg, ⟨%f2, Hres⟩, HO, Hk⟩
  -- the entry signal, the receive buffer lent with it
  iapply (step_signal m κ c _ (addr_signal c) W (by decide)) $$ [HO HtE Hin]
  · isplitr; · iexact HK
    isplitl [HO]; · iexact HO
    isplitl [HtE]; · iexact HtE
    isplitl [Hin]; · iexists f1; iapply (Entails.of_eq (inPts_eq c f1).symm); iexact Hin
    iexact HrL
  iintro HO
  -- the block's row sums into the send buffer
  iapply (wp_load 𝒱₀ (c : Thread nD τ) none Set.univ (m := argM) (Finset.subset_univ _)) $$ Harg; iintro Harg
  rw [read_arg]
  iapply (wp_load 𝒱₀ (c : Thread nD τ) none Set.univ (m := outM) (Finset.subset_univ _)) $$ Hout; iintro Hout
  iapply (wp_store 𝒱₀ (c : Thread nD τ) none Set.univ (m := outM) (r := rowRect) (Mk := Finset.univ) (Finset.subset_univ _)) $$ Hout; iintro Hout
  rw [write_out]
  -- the peer's entry signal
  iapply (step_collect m κ .entry c (tallyAt (cell .landed (peer c)) () rowCredit) W (by decide)
    (wpE_semWait_eq 𝒱₀ (c : Thread nD τ) none Set.univ)) $$ [HcE HO HaE]
  · isplitr; · iexact HK
    isplitl [HcE]; · iexact HcE
    isplitl [HO]; · iexact HO
    isplitr; · iapply (may_wait_entry c); iexact Hlev
    iexact HaE
  iintro ⟨HO, HaE, Hlent⟩
  -- the transfer, reading the send buffer through half its share
  ihave Hout' := (Entails.of_eq (outPts_eq c fullShare (partAt m c)).symm) $$ Hout
  ihave Hsplit := (halves c (partAt m c)).1 $$ Hout'
  icases Hsplit with ⟨HoutL, HoutR⟩
  iapply (step_transfer m κ c _ (addr_transfer c) (insert (Role.entry.sem, ()) W)) $$ [HoutL Hlent HO HtS HtL]
  · isplitr; · iexact HK
    isplitl [HoutL]; · iexact HoutL
    isplitl [Hlent]; · iexact Hlent
    isplitl [HO]; · iexact HO
    isplitl [HtS]; · iexact HtS
    isplitr; · iexact HrS
    iexact HtL
  iintro ⟨HcS, HO⟩
  -- the peer's row arrives
  iapply (step_collect m κ .landed c 0 (insert (Role.entry.sem, ()) W) rfl
    (wpE_waitDma2_eq 𝒱₀ (c : Thread nD τ) none Set.univ)) $$ [HcL HO HaL]
  · isplitr; · iexact HK
    isplitl [HcL]; · iexact HcL
    isplitl [HO]; · iexact HO
    isplitr; · rw [MayWait_zero]; iempintro
    iexact HaL
  iintro ⟨HO, HaL, Hin⟩
  unfold payOf
  -- the two rows added into the result
  iapply (wp_load 𝒱₀ (c : Thread nD τ) none Set.univ (m := outM) (by rw [View.set_whole]; exact Finset.subset_univ _)) $$ HoutR; iintro HoutR
  rw [read_out]
  iapply (wp_load 𝒱₀ (c : Thread nD τ) none Set.univ (m := inM) (by rw [View.set_whole]; exact Finset.subset_univ _)) $$ Hin; iintro Hin
  rw [read_in]
  iapply (wp_load 𝒱₀ (c : Thread nD τ) none Set.univ (m := resM) (Finset.subset_univ _)) $$ Hres; iintro Hres
  iapply (wp_store 𝒱₀ (c : Thread nD τ) none Set.univ (m := resM) (r := rowRect) (Mk := Finset.univ) (Finset.subset_univ _)) $$ Hres; iintro Hres
  rw [write_res]
  -- the send buffer's other half comes back
  iapply (step_collect m κ .sent c 0 (insert (Role.landed.sem, ()) (insert (Role.entry.sem, ()) W)) out_credit
    (wpE_waitDma2_eq (src := inM) (dst := outM) 𝒱₀ (c : Thread nD τ) none Set.univ)) $$ [HcS HO HaS]
  · isplitr; · iexact HK
    isplitl [HcS]; · iexact HcS
    isplitl [HO]; · iexact HO
    isplitr; · rw [MayWait_zero]; iempintro
    iexact HaS
  iintro ⟨HO, HaS, HoutL⟩
  unfold payOf runs
  dsimp only
  rw [wp_ret]
  imod (close_cell m κ .entry c) $$ [HaE] with HzE
  · isplitr; · iexact HK
    iexact HaE
  imod (close_cell m κ .sent c) $$ [HaS] with HzS
  · isplitr; · iexact HK
    iexact HaS
  imod (close_cell m κ .landed c) $$ [HaL] with HzL
  · isplitr; · iexact HK
    iexact HaL
  imodintro
  iapply Hk
  unfold finished
  isplitl [HzE]; · iexact HzE
  isplitl [HzS]; · iexact HzS
  isplitl [HzL]; · iexact HzL
  isplitl [HoutL HoutR]
  · iexists (partAt m c)
    iapply (Entails.of_eq (outPts_eq c fullShare (partAt m c)))
    iapply (halves c (partAt m c)).2
    isplitl [HoutL] <;> iassumption
  isplitl [Hin]
  · iexists (partAt m (peer c))
    iapply (Entails.of_eq (inPts_eq c (partAt m (peer c)))); iexact Hin
  isplitl [Harg]; · iexact Harg
  isplitl [Hres]; · iexact Hres
  iexists _; iexact HO

end Cert.RowSum

end
-- ==== Proof.Region.lean ====
/-
  The kernel inside its pipeline: the argument's block is staged in, the kernel runs, the row of sums is staged out.

  `staged` is the pipeline's proof data, `body_meets` the kernel's obligation to it, and `exchange` the region of the program
  the pipeline makes up, from the launch's buffers to the buffers with the row of sums in the result.
-/
module

public import proofs.«01_k».proof.Proof.Body
public import Idealize.ShloMosaic.Lib.Pipeline.ValueKit.Geometry

@[expose] public section

noncomputable section

namespace Cert.RowSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (m : (ℓ : Loc nD τ sig) → Buf (Elt F) ℓ)

/-! ## The pipeline's proof data -/

/-- The invariants of the exchange and the device's standing in it: all the kernel needs besides its buffers. -/
def equipped (c : Dev nD) : sProp 𝕄 :=
  iprop((∃ κ, known m κ) ∗ standing c ∗ levAts ixOf levelOf)

/-- The kernel's own buffers, at contents nobody reads, and the device's generator register. -/
def scratch (c : Dev nD) : sProp 𝕄 :=
  iprop((holdsSome c cc0_scratch0 ∗ holdsSome c cc0_scratch1) ∗ ∃ r, prngReg c r)

/-- The two DMA semaphores, closed. -/
abbrev closedDma (c : Dev nD) : sProp 𝕄 := iprop(semVal (cell .sent c) 0 ∗ semVal (cell .landed c) 0)

/-- What each device's buffers hold at the launch. -/
abbrev launched (c : Dev nD) : Valuation τ sig (Elt F) := fun b => m ((c : Dev nD), b)

/-- The pipeline has one point. Before it the device is equipped and in debt; after it the three semaphores are closed and
    nothing is owed. -/
def invAt (c : Dev nD) : ℕ → sProp 𝕄
  | 0 => iprop(equipped m c ∗ scratch c)
  | _ + 1 => iprop((semVal (cell .entry c) 0 ∗ closedDma c) ∗ scratch c)
def owedAt (c : Dev nD) : ℕ → CellTallies nD τ sig Unit
  | 0 => debt c
  | _ + 1 => 0

/-- The pipeline's proof data: the kernel keeps the block it is given and leaves the sums. -/
def staged (c : Dev nD) : Dat τ (Elt F) Unit ℕ Ghost ℕ cfg0 c where
  A w := m ((cfg0.win w).arr.view.loc (c : Thread nD τ))
  after w _ := match w with
    | ⟨0, _⟩ => blockAt m c
    | ⟨1, _⟩ => sumAt m c
  Φ t := invAt m c t.val
  q _ := fullShare
  owed t := owedAt c t.val

abbrev adm : (p : Fin 1) → (pcfgs (F := F) p).Adm := fun p => (cfgs p).toPCfg_adm

/-- The program's one pipeline. -/
def pipes : (p : Fin 1) → (c : Dev nD) → Dat τ (Elt F) Unit ℕ Ghost ℕ (Pipeline.pin (pcfgs (F := F)) adm p) c
  | 0 => staged m

section AtBothEnds

variable (c : Dev nD)

theorem last_eq_one : (Fin.last cfg0.N).val = 1 := N_0

theorem inv_first : (staged m c).Φ 0 = iprop(equipped m c ∗ scratch c) := rfl
theorem inv_last : (staged m c).Φ (Fin.last cfg0.N) = iprop((semVal (cell .entry c) 0 ∗ closedDma c) ∗ scratch c) := by
  show invAt m c (Fin.last cfg0.N).val = _; rw [last_eq_one]; rfl
theorem owed_first : (staged m c).owed 0 = debt c := rfl
theorem owed_last : (staged m c).owed (Fin.last cfg0.N) = 0 := by
  show owedAt c (Fin.last cfg0.N).val = 0; rw [last_eq_one]; rfl

/-- The one point runs from the first position to the last. -/
theorem point_first : t0_0.castSucc = (0 : Fin (cfg0.N + 1)) := Fin.ext rfl
theorem point_last : t0_0.succ = Fin.last cfg0.N := Fin.ext last_eq_one.symm

/-- Nothing restricts what a device has waited for, so what it owes may be stated with any record of its waits. -/
theorem owes_in (t : Fin (cfg0.N + 1)) (O : CellTallies nD τ sig Unit) (h : (staged m c).owed t = O) :
    (iprop(∃ W, owes (c : Thread nD τ) O W) : sProp 𝕄) ⊢ (staged m c).owesAt () t := by
  unfold Dat.owesAt Pipeline.owesWithin Dat.bound
  rw [h]
  iintro ⟨%W, H⟩
  iexists W
  isplitr
  · ipureintro; exact fun _ _ => Or.inl trivial
  iexact H
theorem owes_out (t : Fin (cfg0.N + 1)) (O : CellTallies nD τ sig Unit) (h : (staged m c).owed t = O) :
    (staged m c).owesAt () t ⊢ (iprop(∃ W, owes (c : Thread nD τ) O W) : sProp 𝕄) := by
  unfold Dat.owesAt Pipeline.owesWithin
  rw [h]
  iintro ⟨%W, -, H⟩
  iexists W; iexact H

end AtBothEnds

/-! ## The kernel meets its obligation -/

/-- Owning a whole buffer at a value, spelt as holding it. -/
theorem owns_holds (c : Dev nD) (b : Ref sig .tc) (v : b.ty.Contents (Elt F)) :
    (owns (Ix := Unit) (Name := ℕ) (U := Ghost) (Lvl := ℕ) (c : Thread nD τ) (Memref.whole b) fullShare v : sProp 𝕄)
      = iprop(∃ f : Buf (Elt F) ((c : Thread nD τ).loc b), ⌜f = v⌝ ∗ holds c b f) := by
  unfold owns; simp only [Memref.view_whole, View.read_whole, View.set_whole]

/-- The pipeline hands the kernel its block of the argument. -/
theorem block_staged (c : Dev nD) (d : (cfg0.win 0).block.Idx → Elt F (cfg0.win 0).elt) : (staged m c).before 0 t0_0 d = blockAt m c := by
  unfold Dat.before; rw [if_pos (fetch0_0 t0_0)]
  funext i
  refine congrArg (m ((c : Thread nD τ).loc main_arg0)) (funext fun a => Fin.ext ?_)
  exact (cfg0.win 0).rect_emb_val_of_index_zero t0_0 a (by fin_cases a <;> rfl) i

theorem body_meets (c : Dev nD) : BodyObligation (staged (F := F) m c) (defs₀ (F := F)) 𝒱₀ () Set.univ := fun t => by
  obtain rfl := fin_N0 t
  rw [bigSep_W0, bigSep_W0]
  simp only [owns_holds]
  rw [point_first, point_last, inv_first, inv_last]
  unfold equipped scratch
  iintro ⟨⟨⟨⟨%κ, #HK⟩, Hst, #Hlev⟩, ⟨Hs0, Hs1⟩, Hr⟩, HO, ⟨%d0, %f0, %e0, Harg⟩, ⟨%d1, %f1, %e1, Hres⟩⟩
  rw [block_staged] at e0
  subst e0
  ihave HO' := (owes_out m c 0 (debt c) (owed_first m c)) $$ HO
  icases HO' with ⟨%W, HO⟩
  iapply (exchange_run m κ c W _)
  isplitr; · iexact HK
  isplitl [Hst]; · iexact Hst
  isplitr; · iexact Hlev
  isplitl [Hs0]; · iexact Hs0
  isplitl [Hs1]; · iexact Hs1
  isplitl [Harg]; · iexact Harg
  isplitl [Hres]; · iexists f1; iexact Hres
  isplitl [HO]; · iexact HO
  unfold finished
  iintro ⟨HzE, HzS, HzL, Hs0, Hs1, Harg, Hres, HO⟩
  isplitl [HzE HzS HzL Hs0 Hs1 Hr]
  · isplitl [HzE HzS HzL]
    · isplitl [HzE]; · iexact HzE
      isplitl [HzS] <;> iassumption
    isplitl [Hs0 Hs1]; · isplitl [Hs0] <;> iassumption
    iexact Hr
  isplitl [HO]; · iapply (owes_in m c (Fin.last cfg0.N) 0 (owed_last m c)); iexact HO
  isplitl [Harg]
  · iexists (blockAt m c); isplitr; swap; (· iexact Harg); ipureintro; rfl
  iexists (sumAt m c); isplitr; swap; (· iexact Hres); ipureintro; rfl

/-! ## The region -/

/-- The buffers once the kernel is done: the launch's, with the row of sums in its result. -/
abbrev summed (c : Dev nD) : Valuation τ sig (Elt F) := Function.update (launched m c) (Proc.devRef .tc main_v1) (sumAt m c)

theorem summed_arg (c : Dev nD) : summed m c (Proc.devRef .tc main_arg0) = launched m c (Proc.devRef .tc main_arg0) :=
  Function.update_of_ne (by decide) _ _
theorem summed_res (c : Dev nD) : summed m c (Proc.devRef .tc main_v1) = sumAt m c :=
  Function.update_self (Proc.devRef .tc main_v1 : DevRef τ sig) (sumAt m c) (launched m c)

/-- The argument's array is only read. -/
theorem arr_arg (c : Dev nD) (t : ℕ) : (staged m c).arrAt 0 t = launched m c (Proc.devRef .tc main_arg0) :=
  Dat.arrAt_in (dat := staged m c) 0 rfl t

/-- The result's array is written whole, with the sums. -/
theorem arr_res (c : Dev nD) : (staged m c).arrAt 1 cfg0.N = sumAt m c :=
  Pipeline.Dat.arrAt_eq_of_after_last (dat := staged m c) 1 t0_0 (by decide +kernel) (sumAt m c) fun j => rfl

/-- The two DMA semaphores are the kernel's own. -/
abbrev ownSem : Fin 2 → SemLoc sig := fun k => if k = 0 then Role.sent.sem else Role.landed.sem

theorem own_sems (c : Dev nD) : (Pipeline.ownSems0 ownSem c : sProp 𝕄) = closedDma c :=
  BI.bigSep_fin_two (fun k : Fin 2 => (semVal ((c : Thread nD τ), ownSem k) 0 : sProp 𝕄))

/-- The kernel's own buffers, as the pipeline's frame lists them. -/
theorem scratch_eq (c : Dev nD) :
    (Pipeline.scopedRest (Ix := Unit) (Name := ℕ) (U := Ghost) (Lvl := ℕ) (Val := Elt F) (Pipeline.pin (pcfgs (F := F)) adm 0).spec c : sProp 𝕄)
      = iprop(holdsSome c cc0_scratch0 ∗ holdsSome c cc0_scratch1) := scopedRest0_eq c

/-- What a device brings to the region: the invariants, its position at the entry semaphore, the right to open the two DMA
    semaphores, the payments it is to make, and the payments it may count on. -/
def ticket (c : Dev nD) : sProp 𝕄 :=
  iprop((∃ κ, known m κ) ∗ atPos tradeG (cell .entry c) 0 ∅ 0 ∗ (openTok tradeG (cell .sent c) ∗ openTok tradeG (cell .landed c))
    ∗ (dutyTok tradeG (cell .entry (peer c)) 0 () ∗ dutyTok tradeG (cell .landed (peer c)) 0 () ∗ dutyTok tradeG (cell .sent c) 0 ())
    ∗ (cred (tallyAt (cell .entry c) () 1) ∗ cred (tallyAt (cell .landed c) () rowCredit)))

/-- With its two DMA semaphores at zero a device opens them, and is equipped. -/
theorem enter (c : Dev nD) :
    iprop(ticket m c ∗ Pipeline.ownSems0 ownSem c ∗ levAts ixOf levelOf) ⊢ (|={Set.univ}=> equipped m c : sProp 𝕄) := by
  rw [own_sems]
  unfold ticket equipped standing
  iintro ⟨⟨⟨%κ, #HK⟩, HaE, ⟨HoS, HoL⟩, Ht, Hc⟩, ⟨HzS, HzL⟩, #Hlev⟩
  imod (Rounds.cell_open tradeG (plan m) (g := cell .sent c) (Set.mem_univ (κ (cell .sent c)))) $$ [HoS HzS] with ⟨HaS, #HrS⟩
  · isplitr; · iapply (known_inv m κ .sent c); iexact HK
    isplitl [HoS] <;> iassumption
  imod (Rounds.cell_open tradeG (plan m) (g := cell .landed c) (Set.mem_univ (κ (cell .landed c)))) $$ [HoL HzL] with ⟨HaL, #HrL⟩
  · isplitr; · iapply (known_inv m κ .landed c); iexact HK
    isplitl [HoL] <;> iassumption
  imodintro
  isplitr; · iexists κ; iexact HK
  isplitr []
  · isplitl [HaE HaS HaL]
    · isplitl [HaE]; · iexact HaE
      isplitl [HaS] <;> iassumption
    isplitr
    · isplitr; · iexact HrS
      iexact HrL
    isplitl [Ht] <;> iassumption
  iexact Hlev

/-- The one buffer the pipeline does not touch: the program's result. -/
abbrev aside : Finset (DevRef τ sig) := Pipeline.ucRefs τ sig \ Pipeline.arrRefs spec0

theorem facts0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- No buffer held aside is the kernel's result. -/
theorem aside_kept (c : Dev nD) : ∀ b ∈ aside \ ∅, summed m c b = launched m c b := fun b hb => by
  have hne : Proc.devRef .tc main_v1 ∉ aside \ ∅ := by decide
  exact Function.update_of_ne (fun h : b = Proc.devRef .tc main_v1 => hne (h ▸ hb)) _ _

/-- The pipeline's own semaphores serve no role, so sit at level 0. -/
theorem level_staging (c : Dev nD) (w : Fin cfg0.W) (s : Fin (cfg0.win w).nbuf) :
    levelOf ((c : Thread nD τ), SemLoc.dma ((cfg0.win w).sem s)) () = 0 := by
  have h : roleOf (SemLoc.dma ((cfg0.win w).sem s)) = none := by revert w s; decide
  unfold levelOf; rw [h]

set_option backward.isDefEq.respectTransparency.types false in
/-- The region, from a device's ticket and debt to its closed entry semaphore and no debt, and from the launch's buffers to
    `summed`. -/
def exchange : Pipeline.RegionSeg (pcfgs (F := F)) adm (pipes m) () defs₀ 𝒱₀ ixOf levelOf 0 :=
  Pipeline.RegionSeg.ofTalk (pcfgs (F := F)) adm (pipes m) () defs₀ 𝒱₀ ixOf levelOf 0 ownSem (by decide : Pipeline.OwnSemFacts spec0 ownSem)
    ∅ (aside) (Finset.empty_subset _) facts0 rfl (fun c => (body_meets m c).loose)
    (fun _ => 0) debt (fun c => (owed_first m c).trans (zero_add _).symm) (owed_last m) (fun _ => rfl)
    (fun c w => by unfold Dat.share; split <;> rfl)
    (launched m) (summed m) (aside_kept m)
    (ticket m) (fun c => semVal (cell .entry c) 0) (equipped m) (fun c => semVal (cell .entry c) 0) (enter m)
    (fun c => by
      rw [show (pipes m 0 c).Φ 0 = _ from inv_first m c, scratch_eq]
      unfold scratch
      iintro ⟨Hs, Hr, -, Hx⟩
      isplitl [Hx]; · iexact Hx
      isplitl [Hs] <;> iassumption)
    (fun c => by
      rw [show (pipes m 0 c).Φ (Fin.last _) = _ from inv_last m c, scratch_eq, own_sems]
      unfold scratch StableHlo.held
      rw [BI.bigSep_empty]
      iintro ⟨⟨HzE, Hz⟩, Hs, Hr⟩
      isplitl [Hs]; · iexact Hs
      isplitl [Hr]; · iexact Hr
      isplitr; · iempintro
      isplitl [Hz] <;> iassumption)
    (fun c => by iintro H; imodintro; iexact H)
    (fun _ => 0)
    ⟨fun c w s => mem_ixOf c _, fun c w s => Nat.le_of_eq (level_staging c w s), fun c t g i h => by
      have h' : 0 < owedAt c t.val g i := h
      match t.val, h' with
      | 0, h' => exact debt_level h'
      | _ + 1, h' => exact absurd h' (Nat.lt_irrefl 0)⟩
    (fun _ => iprop(emp))
    (fun c w => by fin_cases w <;> rfl)
    (fun c w => by
      fin_cases w
      · exact (arr_arg m c _).trans (summed_arg m c).symm
      · exact (arr_res m c).trans (summed_res m c).symm)

end Cert.RowSum

end
-- ==== Proof.Run.lean ====
/-
  The program, run on the four devices from any memory with every semaphore at zero.

  The program is the region `exchange` and one host line that turns the row of sums into a column. The launch deals each
  device its ticket: the invariants of all twelve semaphores are made in one step, the entry semaphores' open, the DMA
  semaphores' for their owner to open, and the right to pay at a device's entry and arrival goes to its peer.
-/
module

public import proofs.«01_k».proof.Proof.Region

@[expose] public section

noncomputable section

namespace Cert.RowSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (m : (ℓ : Loc nD τ sig) → Buf (Elt F) ℓ) (ρ₀ : Dev nD → PrngReg)

/-! ## The program's two segments -/

/-- A device owing nothing. -/
abbrev clear (c : Dev nD) : sProp 𝕄 := iprop(∃ W, owes (c : Thread nD τ) (0 : CellTallies nD τ sig Unit) W)

/-- The program's buffers outside the kernel, at a valuation. -/
abbrev buffers (c : Dev nD) (V : Valuation τ sig (Elt F)) : sProp 𝕄 := StableHlo.held (c : Thread nD τ) (Pipeline.ucRefs τ sig) V

/-- The host line after the kernel: the buffers move on by it, the closed entry semaphore riding along. -/
def column : Pipeline.HostSeg (Name := ℕ) (U := Ghost) (pcfgs (F := F)) defs₀ 𝒱₀ ixOf levelOf :=
  Pipeline.HostSeg.ofOps _ _ _ _ _ (Pipeline.ucRefs τ sig) hostOps1
    (fun op h => Pipeline.sub_ucRefs op ((List.forall_iff_forall_mem.mp hostOps1_sub) op h))
    (List.forall_iff_forall_mem.mp hostOps1_fresh) (summed m) (fun c => iprop(semVal (cell .entry c) 0 ∗ clear c))

/-- The program. -/
def stretches : List (Pipeline.Seg (pcfgs (F := F)) adm (pipes m) () defs₀ 𝒱₀ ixOf levelOf) := [.region (exchange m), .host (column m)]

/-- Its buffers at the end. -/
abbrev ended (c : Dev nD) : Valuation τ sig (Elt F) := StableHlo.after hostOps1 (summed m c)

theorem arrs_sub : Pipeline.arrRefs spec0 ⊆ Pipeline.ucRefs τ sig := Pipeline.arrRefs_sub_ucRefs _ winFacts0.arr_unscoped

/-- What a device starts with, and what it ends with beside owing nothing. -/
def starts (c : Dev nD) : sProp 𝕄 :=
  iprop(buffers c (launched m c) ∗ (∃ r, prngReg c r) ∗ ticket m c ∗ ∃ W, owes (c : Thread nD τ) (debt c) W)
def ends (c : Dev nD) : sProp 𝕄 := iprop(buffers c (ended m c) ∗ semVal (cell .entry c) 0)

theorem into_exchange (c : Dev nD) : starts m c ⊢ (exchange m).pre c := by
  show _ ⊢ iprop(StableHlo.held (c : Thread nD τ) (Pipeline.arrRefs spec0) (launched m c) ∗ (∃ r, prngReg c r)
    ∗ (StableHlo.held (c : Thread nD τ) aside (launched m c) ∗ emp) ∗ ticket m c ∗ ∃ W, owes (c : Thread nD τ) (0 + debt c) W)
  unfold starts buffers
  rw [zero_add, StableHlo.held_sub_split (c : Thread nD τ) arrs_sub (launched m c)]
  iintro ⟨⟨Harr, Haside⟩, Hr, Ht, HO⟩
  isplitl [Harr]; · iexact Harr
  isplitl [Hr]; · iexact Hr
  isplitl [Haside]
  · isplitl [Haside]; · iexact Haside
    iempintro
  isplitl [Ht] <;> iassumption

theorem out_of_exchange (c : Dev nD) : (exchange m).post c ⊢ iprop(buffers c (summed m c) ∗ (semVal (cell .entry c) 0 ∗ clear c)) := by
  show iprop(StableHlo.held (c : Thread nD τ) (Pipeline.arrRefs spec0) (summed m c) ∗ (∃ r, prngReg c r)
    ∗ (StableHlo.held (c : Thread nD τ) aside (summed m c) ∗ emp) ∗ semVal (cell .entry c) 0 ∗ clear c) ⊢ _
  unfold buffers
  rw [StableHlo.held_sub_split (c : Thread nD τ) arrs_sub (summed m c)]
  iintro ⟨Harr, -, ⟨Haside, -⟩, Hz, HO⟩
  isplitl [Harr Haside]; · isplitl [Harr] <;> iassumption
  isplitl [Hz] <;> iassumption

/-! ## The ghost state of the launch -/

/-- All devices' semaphores of one role. -/
def cellsOf (ρ : Role) : Finset (GSem nD τ sig) := Finset.univ.map ⟨cell ρ, fun _ _ h => (cell_inj h).2⟩

theorem over_cellsOf (ρ : Role) (Φ : GSem nD τ sig → sProp 𝕄) : bigSep (cellsOf ρ) Φ = bigSep Finset.univ fun c : Dev nD => Φ (cell ρ c) := by
  unfold cellsOf; exact bigSep_map _

theorem cellsOf_disjoint {ρ ρ' : Role} (h : ρ ≠ ρ') : Disjoint (cellsOf ρ) (cellsOf ρ') := by
  rw [Finset.disjoint_left]
  intro g hg hg'
  obtain ⟨c, -, rfl⟩ := Finset.mem_map.mp hg
  obtain ⟨c', -, e⟩ := Finset.mem_map.mp hg'
  exact h (cell_inj e).1.symm

/-- The DMA semaphores, which their owners open; the entry semaphores are open from the launch on. -/
def dmaCells : Finset (GSem nD τ sig) := cellsOf .sent ∪ cellsOf .landed

theorem cells_disjoint : Disjoint (cellsOf .entry) dmaCells :=
  Finset.disjoint_union_right.mpr ⟨cellsOf_disjoint (by decide), cellsOf_disjoint (by decide)⟩

theorem over_dma (Φ : GSem nD τ sig → sProp 𝕄) :
    bigSep dmaCells Φ = bigSep Finset.univ fun c : Dev nD => iprop(Φ (cell .sent c) ∗ Φ (cell .landed c)) := by
  rw [bigSep_sep', ← over_cellsOf, ← over_cellsOf]
  exact bigSep_union (cellsOf_disjoint (by decide))

/-- Over the roles, one at a time. -/
theorem over_roles (Φ : Role → sProp 𝕄) : bigSep Finset.univ Φ = iprop(Φ .entry ∗ Φ .sent ∗ Φ .landed) :=
  bigSep_univ_eq_bigSepL [Role.entry, Role.sent, Role.landed] (by decide) (by decide) Φ

/-- The entry semaphores and the DMA semaphores are the semaphores of the exchange. -/
theorem over_all (Φ : GSem nD τ sig → sProp 𝕄) :
    bigSep (cellsOf .entry ∪ dmaCells) Φ = bigSep Finset.univ fun x : Dev nD × Role => Φ (cell x.2 x.1) := by
  refine (bigSep_union cells_disjoint).trans ?_
  rw [over_cellsOf, over_dma, bigSep_univ_prod]
  refine (bigSep_sep' _ _ _).symm.trans (bigSep_congr fun c _ => ?_)
  exact (over_roles fun ρ => Φ (cell ρ c)).symm

/-- One payment per semaphore. -/
def payments : Finset (GSem nD τ sig × ℕ × Unit) :=
  Finset.univ.map ⟨fun x : Dev nD × Role => (cell x.2 x.1, 0, ()), fun _ _ h =>
    Prod.ext (cell_inj (congrArg Prod.fst h)).2 (cell_inj (congrArg Prod.fst h)).1⟩

theorem over_payments (Φ : GSem nD τ sig × ℕ × Unit → sProp 𝕄) :
    bigSep payments Φ = bigSep Finset.univ fun c : Dev nD =>
      iprop(Φ (cell .entry c, 0, ()) ∗ Φ (cell .sent c, 0, ()) ∗ Φ (cell .landed c, 0, ())) := by
  unfold payments
  rw [bigSep_map, bigSep_univ_prod]
  exact bigSep_congr fun c _ => over_roles fun ρ => Φ (cell ρ c, 0, ())

/-- The right to pay at a device's entry and at its arrival is its peer's. -/
theorem payments_dealt :
    bigSep payments (fun x => (dutyTok tradeG x.1 x.2.1 x.2.2 : sProp 𝕄))
      ⊢ bigSep Finset.univ fun c : Dev nD =>
        iprop(dutyTok tradeG (cell .entry (peer c)) 0 () ∗ dutyTok tradeG (cell .landed (peer c)) 0 () ∗ dutyTok tradeG (cell .sent c) 0 ()) := by
  rw [over_payments, bigSep_sep', bigSep_sep', bigSep_sep', bigSep_sep',
    bigSep_univ_equiv trade (fun c : Dev nD => (dutyTok tradeG (cell .entry c) 0 () : sProp 𝕄)),
    bigSep_univ_equiv trade (fun c : Dev nD => (dutyTok tradeG (cell .landed c) 0 () : sProp 𝕄))]
  iintro ⟨HE, HS, HL⟩
  isplitl [HE]; · iexact HE
  isplitl [HL]; · iexact HL
  iexact HS

/-- The exchange's launch element, and the launch's: the staging pipeline's beside it. -/
def tradeElt : UR sig nD τ := launchOf (cellsOf .entry) dmaCells payments
def launchElt : Ghost :=
  (initOf (Pipeline.cells (Pipeline.pin (pcfgs (F := F)) adm) cellOf_inj) (Pipeline.launchToks (Pipeline.pin (pcfgs (F := F)) adm) cellOf_inj),
    tradeElt)

/-- A resource parked on device 0. -/
def parked (X : sProp 𝕄) (c : Dev nD) : sProp 𝕄 := if c = 0 then X else iprop(emp)
theorem parked_all (X : sProp 𝕄) : bigSep Finset.univ (parked X) = X := by
  rw [bigSep_univ_at _ (0 : Dev nD), bigSep_congr (s := Finset.univ.erase (0 : Dev nD)) (Ψ := fun _ => (BI.emp : sProp 𝕄))
    fun c hc => by unfold parked; exact if_neg (Finset.ne_of_mem_erase hc), BI.bigSep_emp_const]
  exact (congrArg (fun Y : sProp 𝕄 => iprop(Y ∗ emp)) (if_pos rfl)).trans (BI.equiv_iff.mp sep_emp)

/-! ## The launch's credit -/

/-- Only its peer owes a device its entry and its arrival. -/
theorem debt_entry (d c : Dev nD) : debt d (cell .entry c) () = if d = peer c then 1 else 0 := by
  unfold debt
  rw [Pi.add_apply, Finsupp.add_apply, tallyAt_ne_cell (fun h => Role.noConfusion (cell_inj h).1), tallyAt_apply, Finsupp.zero_apply, Nat.zero_add]
  by_cases h : d = peer c
  · subst h; rw [peer_peer, if_pos ⟨rfl, rfl⟩, if_pos rfl]
  · rw [if_neg (fun e => h (by rw [(cell_inj e.1).2, peer_peer])), if_neg h]
theorem debt_landed (d c : Dev nD) : debt d (cell .landed c) () = if d = peer c then rowCredit else 0 := by
  unfold debt
  rw [Pi.add_apply, Finsupp.add_apply, tallyAt_apply, tallyAt_ne_cell (fun h => Role.noConfusion (cell_inj h).1), Finsupp.zero_apply, Nat.add_zero]
  by_cases h : d = peer c
  · subst h; rw [peer_peer, if_pos ⟨rfl, rfl⟩, if_pos rfl]
  · rw [if_neg (fun e => h (by rw [(cell_inj e.1).2, peer_peer])), if_neg h]

/-- So a cell whose owner's peer alone owes it `k` is credited `k`. -/
theorem credited {g : GSem nD τ sig} {c : Dev nD} {k : ℕ} (h : ∀ d : Dev nD, debt d g () = if d = peer c then k else 0) :
    tallyOn g (launchCredit (Pipeline.owing debt) 0 g) = (tallyAt g () k : CellTallies nD τ sig Unit) := by
  unfold tallyAt
  refine congrArg _ (Finsupp.ext fun u => ?_)
  cases u
  rw [Pipeline.launchCredit_owing, Finsupp.single_eq_same, Finset.sum_congr rfl fun d _ => h d,
    Finset.sum_ite_eq' Finset.univ (peer c) fun _ => k, if_pos (Finset.mem_univ _)]

theorem credit_dealt (c : Dev nD) :
    (Pipeline.launchCred debt c : sProp 𝕄) ⊢ iprop(cred (tallyAt (cell .entry c) () 1) ∗ cred (tallyAt (cell .landed c) () rowCredit)) := by
  unfold Pipeline.launchCred
  rw [bigSep_univ_at _ Role.entry.sem, credited fun d => debt_entry d c]
  refine sep_mono_right ?_
  rw [← credited fun d => debt_landed d c]
  exact bigSep_elim (Finset.mem_erase.mpr ⟨by decide, Finset.mem_univ Role.landed.sem⟩)

/-! ## The launch -/

theorem entry_only : ∀ s : SemLoc sig, s.isScoped .tc = false → s = Role.entry.sem := by decide

/-- The entry semaphore is the one semaphore outside the kernel's. -/
theorem outer_sems (c : Dev nD) : (unscopedSems0 c : sProp 𝕄) = semVal (cell .entry c) 0 := by
  unfold unscopedSems0
  rw [show (Finset.univ.filter fun s : SemLoc sig => ¬ s.isScoped .tc) = {Role.entry.sem} from by decide, bigSep_singleton]

/-- Of what a device starts with, the part that needs no other device. -/
def own (c : Dev nD) : sProp 𝕄 :=
  iprop(buffers c (launched m c) ∗ (∃ r, prngReg c r) ∗ (∃ W, owes (c : Thread nD τ) (debt c) W)
    ∗ (cred (tallyAt (cell .entry c) () 1) ∗ cred (tallyAt (cell .landed c) () rowCredit)))

/-- The part dealt out of the exchange's launch element. -/
def share (c : Dev nD) : sProp 𝕄 :=
  iprop(atPos tradeG (cell .entry c) 0 ∅ 0 ∗ (openTok tradeG (cell .sent c) ∗ openTok tradeG (cell .landed c))
    ∗ (dutyTok tradeG (cell .entry (peer c)) 0 () ∗ dutyTok tradeG (cell .landed (peer c)) 0 () ∗ dutyTok tradeG (cell .sent c) 0 ()))

theorem starts_intro (κ : Names) (c : Dev nD) : iprop(known m κ ∗ (share c ∗ own m c)) ⊢ starts m c := by
  unfold share own starts ticket
  iintro ⟨#HK, ⟨Hat, Ho, Ht⟩, Hb, Hr, HO, Hc⟩
  isplitl [Hb]; · iexact Hb
  isplitl [Hr]; · iexact Hr
  isplitr [HO]
  · isplitr; · iexists κ; iexact HK
    isplitl [Hat]; · iexact Hat
    isplitl [Ho]; · iexact Ho
    isplitl [Ht] <;> iassumption
  iexact HO

/-- The launch: from the devices' buffers, semaphores, debts and credit, and the launch element, every device's start. -/
theorem launch :
    iprop((bigSep Finset.univ fun c : Dev nD => iprop(unscopedBufs c (fun b => m ((c : Thread nD τ).loc b)) ∗ unscopedSems0 c
          ∗ owes (c : Thread nD τ) (debt c) ∅ ∗ Pipeline.launchCred debt c ∗ prngReg c (ρ₀ c) ∗ parked (BI.own (tradeG tradeElt)) c))
        ∗ levAts ixOf levelOf)
      ⊢ (|={Set.univ}=> bigSep Finset.univ (starts m) : sProp 𝕄) := by
  have each (c : Dev nD) : iprop(unscopedBufs c (fun b => m ((c : Thread nD τ).loc b)) ∗ unscopedSems0 c
        ∗ owes (c : Thread nD τ) (debt c) ∅ ∗ Pipeline.launchCred debt c ∗ prngReg c (ρ₀ c) ∗ parked (BI.own (tradeG tradeElt)) c)
      ⊢ (iprop(own m c ∗ (semVal (cell .entry c) 0 ∗ parked (BI.own (tradeG tradeElt)) c)) : sProp 𝕄) := by
    rw [show unscopedBufs c (fun b => m ((c : Thread nD τ).loc b)) = buffers c (launched m c) from Pipeline.unscopedBufs_held c (launched m c),
      outer_sems]
    unfold own
    iintro ⟨Hb, Hz, HO, Hc, Hr, HG⟩
    ihave Hc' := (credit_dealt (F := F) c) $$ Hc
    isplitl [Hb HO Hc' Hr]
    · isplitl [Hb]; · iexact Hb
      isplitl [Hr]; · iexists (ρ₀ c); iexact Hr
      isplitl [HO]; · iexists ∅; iexact HO
      iexact Hc'
    isplitl [Hz] <;> iassumption
  iintro ⟨H, -⟩
  ihave H := (show _ ⊢ (bigSep Finset.univ fun c : Dev nD => iprop(own m c ∗ (semVal (cell .entry c) 0 ∗ parked (BI.own (tradeG tradeElt)) c)) : sProp 𝕄)
    from bigSep_mono fun c _ => each c) $$ H
  ihave H := (Entails.of_eq (bigSep_sep' _ _ _)) $$ H; icases H with ⟨Hown, H⟩
  ihave H := (Entails.of_eq (bigSep_sep' _ _ _)) $$ H; icases H with ⟨Hz, HG⟩
  ihave HG := (Entails.of_eq (parked_all (F := F) (BI.own (tradeG tradeElt)))) $$ HG
  imod (Rounds.fund_launch tradeG (plan m) cells_disjoint (fun g _ h => h) payments) $$ [Hz HG] with ⟨%κ, -, #Hinv, #Hr, Hat, Hopen, Htok⟩
  · isplitl [Hz]
    · iapply (Entails.of_eq (over_cellsOf (F := F) .entry fun g => semVal g 0).symm) $$ Hz
    · iexact HG
  imodintro
  iapply (bigSep_with_persistent (R := known m κ) (Φ := fun c => iprop(share c ∗ own m c)) fun c _ => starts_intro m κ c)
  isplitr
  · unfold known
    isplitr
    · iapply (Entails.of_eq (over_all (F := F) fun g => cellInv tradeG (plan m) (κ g) g)); iexact Hinv
    iapply (Entails.of_eq (over_cellsOf (F := F) .entry fun g => reached tradeG g 0)); iexact Hr
  iapply (Entails.of_eq (bigSep_sep' _ _ _).symm)
  isplitr [Hown]
  · unfold share
    iapply (Entails.of_eq (bigSep_sep' _ _ _).symm)
    isplitl [Hat]; · iapply (Entails.of_eq (over_cellsOf (F := F) .entry fun g => atPos tradeG g 0 ∅ 0)) $$ Hat
    iapply (Entails.of_eq (bigSep_sep' _ _ _).symm)
    isplitl [Hopen]; · iapply (Entails.of_eq (over_dma (F := F) fun g => openTok tradeG g)) $$ Hopen
    iapply (payments_dealt (F := F)) $$ Htok
  · iexact Hown

/-! ## The run -/

theorem ended_arg (c : Dev nD) : ended m c (Proc.devRef .tc main_arg0) = blockAt m c := by
  show StableHlo.after [StableHlo.reshape main_v1 main_v2 rfl shapeCasts_S1x1024_S1024x1] (summed m c) (Proc.devRef .tc main_arg0) = _
  rw [StableHlo.after_cons, StableHlo.after_nil]
  exact (StableHlo.reshape_result_ne _ _ _ _ _ _ _ (by decide)).trans (summed_arg m c)

/-- The column a device ends with: its row of sums, an entry to a line. -/
abbrev columnAt (c : Dev nD) : Vec F S1024x1 .f32 := shapeCast S1024x1 (sumAt m c) shapeCasts_S1x1024_S1024x1

theorem ended_res (c : Dev nD) : ended m c (Proc.devRef .tc main_v2) = columnAt m c := by
  show StableHlo.after [StableHlo.reshape main_v1 main_v2 rfl shapeCasts_S1x1024_S1024x1] (summed m c) (Proc.devRef .tc main_v2) = _
  rw [StableHlo.after_cons, StableHlo.after_nil]
  rw [StableHlo.reshape_result, summed_res]
  rfl

/-- The program's buffers outside the kernel are three. -/
theorem buffers_eq (c : Dev nD) (V : Valuation τ sig (Elt F)) :
    buffers c V = iprop(holds c main_arg0 (V (Proc.devRef .tc main_arg0)) ∗ holds c main_v1 (V (Proc.devRef .tc main_v1))
      ∗ holds c main_v2 (V (Proc.devRef .tc main_v2))) := by
  unfold buffers StableHlo.held
  exact bigSep_eq_bigSepL_of_eq [Proc.devRef .tc main_arg0, Proc.devRef .tc main_v1, Proc.devRef .tc main_v2] (by decide) (by decide) _

set_option backward.isDefEq.respectTransparency.types false in
/-- From any memory with every semaphore at zero, over any floats, every fair execution of the program on the four devices
    terminates, and then each device holds its column of sums, its argument is as it was, and every semaphore is at zero. -/
theorem run_main : θ_run defs (onTc (τ := τ) (main (F := F))) ⟨m, fun _ => 0, ρ₀⟩
    (fun r => (∀ c : Dev nD, r.2.mem ((c : Thread nD τ).loc main_v2) = columnAt m c
        ∧ r.2.mem ((c : Thread nD τ).loc main_arg0) = m ((c : Thread nD τ).loc main_arg0)) ∧ r.2.sem = fun _ => 0) :=
  Pipeline.θ_run_regions_kit_sems (pcfgs (F := F)) adm (pipes m) () cellOf_inj stagingG defs₀ 𝒱₀ ixOf levelOf m ρ₀ main (stretches m)
    (fun c Q => by rw [main_segs adm (pipes m) () 𝒱₀ ixOf levelOf (column m) (exchange m) rfl c]; exact .rfl)
    (by simp only [stretches, Pipeline.Seg.pipes_host, Pipeline.Seg.pipes_region, Pipeline.Seg.pipes_nil]; decide)
    (O₀ := debt) (hL := ixOf_of_ne) (G := parked (BI.own (tradeG tradeElt))) (u₀ := launchElt (F := F))
    (hu₀ := by
      unfold launchElt
      iintro Hu
      ihave H := (ownU_pair _ _) $$ Hu
      icases H with ⟨HP, HX⟩
      imodintro
      isplitl [HP]; · iexact HP
      rw [parked_all]; iexact HX)
    (T₀ := starts m) (Tₙ := ends m)
    (hch := by
      refine ⟨fun c => into_exchange m c, fun c => out_of_exchange m c, fun c => ?_⟩
      show iprop(buffers c (ended m c) ∗ (semVal (cell .entry c) 0 ∗ clear c)) ⊢ iprop(ends m c ∗ clear c)
      unfold ends
      iintro ⟨Hb, Hz, HO⟩
      isplitr [HO]
      · isplitl [Hb] <;> iassumption
      · iexact HO)
    (hinit := launch m ρ₀)
    (QY := fun c s => (s.mem ((c : Thread nD τ).loc main_arg0) = ended m c (Proc.devRef .tc main_arg0)
      ∧ s.mem ((c : Thread nD τ).loc main_v2) = ended m c (Proc.devRef .tc main_v2)) ∧ s.sem (cell .entry c) = 0)
    (hfin := fun c s => by
      unfold ends
      rw [buffers_eq]
      iintro ⟨⟨⟨Ha, -, Hr⟩, Hz⟩, HS⟩
      icombine HS Ha gives %ha
      icombine HS Hr gives %hr
      icombine HS Hz gives %hz
      imodintro
      isplitr
      · ipureintro
        exact ⟨⟨Buf.eq_of_forall_mem_univ ha, Buf.eq_of_forall_mem_univ hr⟩, by simpa using hz⟩
      iexact HS)
    (hQ := fun s h hs => ⟨fun c => ⟨(h c).1.2.trans (ended_res m c), (h c).1.1.trans (ended_arg m c)⟩,
      sem_eq_zero hs fun c sm hsm => by
        obtain rfl := entry_only sm hsm
        exact (h c).2⟩)

end Cert.RowSum

end
-- ==== Proof.Value.lean ====
/-
  What the column of sums holds when the floats are exact.

  A device's block is its part of one array of 2048 rows of 1024 numbers, cut in two both ways over the 2 × 2 mesh. Its
  part of the sums is each of its 1024 rows added over its 512 columns, by a product with a row of ones; adding the
  peer's part, which is the same rows over the other 512 columns, gives the rows of the whole array added over all
  1024. Only that one times a number is the number, that addition commutes and that a finite sum splits in two are used,
  so nothing is asked of the numbers: they may be infinite.
-/
module

public import proofs.«01_k».proof.Proof.Run
public import proofs.«01_k».proof.Proof.Gen.ReferenceIdeal.Run
public import Idealize.ShloMosaic.Lib.Pointwise
public import Idealize.ShloMosaic.Lib.Layout

@[expose] public section

noncomputable section

namespace Cert.RowSum

open Cert.KernelIdeal Cert.KernelIdeal.Gen
open Idealize.ShloMosaic
open Idealize.ShloMosaic.TcCoe
open Idealize.SL.Sem

variable (m : (ℓ : Loc nD τ sig) → Buf (Elt Ideal) ℓ)

/-- A device's part of the sums, at one row: the row of its block added over the 512 columns. -/
theorem part_apply (c : Dev nD) (z : Fin 1) (i : Fin 1024) :
    partAt m c (ix2 z i) = ∑ k : Fin 512, blockAt m c (ix2 i k) := by
  show k0_pay2 (blockAt m c) (ix2 z i) = _
  pointwise [k0_pay2]

/-- The column a device ends with, at one row: its own part there and its peer's. -/
theorem column_apply (c : Dev nD) (i : Fin 1024) (z : Fin 1) :
    columnAt m c (ix2 i z) = partAt m c (ix2 0 i) + partAt m (peer c) (ix2 0 i) := by
  show shapeCast S1024x1 (k0_pay1 (partAt m c) (partAt m (peer c))) shapeCasts_S1x1024_S1024x1 (ix2 i z) = _
  pointwise [k0_pay1]

/-- The reference's result of an array: each row added over its columns. -/
abbrev sumsOf (X : FVec Ideal Cert.ReferenceIdeal.S2048x1024 .f32) : FVec Ideal Cert.ReferenceIdeal.S2048x1 .f32 :=
  broadcastInDim Cert.ReferenceIdeal.S2048x1 ![0] Cert.ReferenceIdeal.Gen.bcast_S2048_S2048x1_0
    (Host.reduceAdd X (constant Cert.ReferenceIdeal.S_ .f32 0x00000000#32)
      Cert.ReferenceIdeal.Gen.reducesTo_S2048x1024_S2048_d1 Cert.ReferenceIdeal.Gen.h_S_)

/-- The reference's result at one row: that row added over all 1024 columns. -/
theorem sums_apply (X : FVec Ideal Cert.ReferenceIdeal.S2048x1024 .f32) (r : Fin 2048) (z : Fin 1) :
    sumsOf X (ix2 r z) = ∑ k : Fin 1024, X (ix2 r k) := by
  show broadcastInDim _ _ _ _ (ix2 r z) = _
  pointwise []

/-- A sum over 1024 columns, split at device column `q` of the mesh: the 512 columns of that half, and the 512 of the
    other. -/
theorem sum_halves (f : Fin 1024 → EReal) (q : ℕ) (hq : q < 2) :
    ∑ k : Fin 1024, f k
      = (∑ k : Fin 512, f ⟨q * 512 + k.val, by omega⟩) + ∑ k : Fin 512, f ⟨(1 - q) * 512 + k.val, by omega⟩ := by
  have h : ∑ k : Fin 1024, f k
      = (∑ k : Fin 512, f ⟨k.val, by omega⟩) + ∑ k : Fin 512, f ⟨512 + k.val, by omega⟩ :=
    Fin.sum_univ_add (a := 512) (b := 512) f
  obtain rfl | rfl : q = 0 ∨ q = 1 := by omega
  · simpa using h
  · rw [h, add_comm]
    simp

/-- One array of 2048 rows of 1024 numbers, as device `c` of the mesh holds it. -/
abbrev Holds (X : FVec Ideal Cert.ReferenceIdeal.S2048x1024 .f32) (c : Dev nD) : Prop :=
  blockAt m c = Layout.blockN ⟨2, ![1024, 512]⟩ ⟨2, ![2048, 1024]⟩ (Layout.meshBlock [2, 2] ![[0], [1]] c) X

/-- A device holding its block of `X` sums, in row `i`, the columns of its half in row `1024 * (c / 2) + i` of `X`. -/
theorem part_of_whole (X : FVec Ideal Cert.ReferenceIdeal.S2048x1024 .f32) (c : Dev nD) (h : Holds m X c) (i : Fin 1024)
    (r : Fin 2048) (hr : r.val = c.val / 2 * 1024 + i.val) (q : ℕ) (hq : q < 2) (hc : c.val % 2 = q) :
    partAt m c (ix2 0 i) = ∑ k : Fin 512, X (ix2 r ⟨q * 512 + k.val, by omega⟩) := by
  rw [part_apply, h]
  refine Finset.sum_congr rfl fun k _ => ?_
  have hlt : c.val < 4 := c.isLt
  rw [Layout.blockN_apply]
  refine congrArg X (funext fun b => Fin.ext ?_)
  rw [Layout.TilesN.idx_val]
  match b with
  | ⟨0, _⟩ =>
    show (c.val / 2 % 2 * 1 + 0) * 1024 + i.val = r.val
    omega
  | ⟨1, _⟩ =>
    show (c.val / 1 % 2 * 1 + 0) * 512 + k.val = q * 512 + k.val
    omega

/-- When every device holds its block of `X`, the column a device ends with is its block of the reference's result of
    `X`. -/
theorem column_of_whole (X : FVec Ideal Cert.ReferenceIdeal.S2048x1024 .f32) (h : ∀ c, Holds m X c) (c : Dev nD) :
    columnAt m c
      = Layout.blockN ⟨2, ![1024, 1]⟩ ⟨2, ![2048, 1]⟩ (Layout.meshBlock [2, 2] ![[0], []] c) (sumsOf X) := by
  funext j
  obtain ⟨i, z, rfl⟩ : ∃ (i : Fin 1024) (z : Fin 1), j = ix2 i z := ⟨j 0, j 1, eq_ix2 j⟩
  have hlt : c.val < 4 := c.isLt
  have hp := peer_val c
  have at_row : (Layout.blockN ⟨2, ![1024, 1]⟩ ⟨2, ![2048, 1]⟩ (Layout.meshBlock [2, 2] ![[0], []] c) (sumsOf X)) (ix2 i z)
      = sumsOf X (ix2 ⟨c.val / 2 * 1024 + i.val, by omega⟩ z) := by
    rw [Layout.blockN_apply]
    refine congrArg (sumsOf X) (funext fun b => Fin.ext ?_)
    rw [Layout.TilesN.idx_val]
    match b with
    | ⟨0, _⟩ =>
      show (c.val / 2 % 2 * 1 + 0) * 1024 + i.val = c.val / 2 * 1024 + i.val
      omega
    | ⟨1, _⟩ =>
      show 0 * 1 + z.val = z.val
      omega
  rw [at_row, sums_apply, column_apply,
    sum_halves _ (c.val % 2) (by omega),
    part_of_whole m X c (h c) i ⟨c.val / 2 * 1024 + i.val, by omega⟩ rfl (c.val % 2) (by omega) rfl,
    part_of_whole m X (peer c) (h _) i ⟨c.val / 2 * 1024 + i.val, by omega⟩
      (by show c.val / 2 * 1024 + i.val = (peer c).val / 2 * 1024 + i.val; omega) (1 - c.val % 2) (by omega) (by omega)]

end Cert.RowSum

end
-- ==== Proof.lean ====
/-
  The five claims about the row-sum kernel, joined.

  The kernel's run is proved once, over any float values (`Cert.RowSum.run_main`): each device ends with a column that is
  a function of its own block and its peer's, its argument as it was, and every semaphore at zero. The frames of the
  kernel as written and of the kernel read exactly are two instances of it, for the two are one program. What the
  column holds when the floats are exact is `Cert.RowSum.column_of_whole`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- Over any float values, the kernel ends on every device with its argument as it was and every semaphore at zero. -/
theorem kept {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread _ Cert.KernelIdeal.τ).loc Cert.KernelIdeal.main_arg0)
          = m ((c.tc : Thread _ Cert.KernelIdeal.τ).loc Cert.KernelIdeal.main_arg0)) ∧ r.2.sem = fun _ => 0) :=
  (θ_run Cert.KernelIdeal.defs _ _).mono (fun _ h => ⟨fun c => (h.1 c).2, h.2⟩) (Cert.RowSum.run_main m ρ)

/-- The kernel as written and the kernel read exactly have one table of bodies: their one label runs one body. -/
theorem bodies_same {F : FTy → Type} [FloatOps F] : Cert.Kernel.defs₀ (F := F) = Cert.KernelIdeal.defs₀ (F := F) :=
  congrArg Defs.onTc (funext fun a => funext fun b => match a, b with
    | ⟨0, _⟩, (_, _) => rfl
    | ⟨_ + 1, h⟩, _ => absurd h (Nat.not_lt.2 (Nat.le_add_left _ _)))

/-- So they have one table of regions. -/
theorem defs_same {F : FTy → Type} [FloatOps F] : Cert.Kernel.defs (F := F) = Cert.KernelIdeal.defs (F := F) :=
  congrArg (Pipeline.defs Cert.KernelIdeal.pcfgs) bodies_same

/-- Over machine floats, the kernel ends on every device with its argument as it was and every semaphore at zero. -/
theorem frame_kernel : Cert.quiescent_Kernel := fun m ρ _ => by
  have h := kept (F := Bits) m ρ
  rw [← defs_same] at h
  exact h

/-- The same of the kernel whose floats are read exactly. -/
theorem frame_ideal : Cert.quiescent_KernelIdeal := fun m ρ _ => kept m ρ

/-- The reference ends with its argument as it was; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- With exact floats, when the four devices hold the blocks of one array, they end holding the blocks of the
    reference's result of that array: its rows, each added over all its columns. -/
theorem sums_agree : Cert.algebraic_KernelIdeal_ReferenceIdeal := by
  intro m ρ m' ρ' _ holds
  refine ⟨Cert.RowSum.sumsOf (m' (((0 : Dev Cert.ReferenceIdeal.nD).tc : Thread _ Cert.ReferenceIdeal.τ).loc
    Cert.ReferenceIdeal.main_arg0)), ?_, ?_⟩
  · exact (θ_run Cert.KernelIdeal.defs _ _).mono
      (fun _ h c => ⟨(h.1 c).1.trans (Cert.RowSum.column_of_whole m _ holds c), (h.1 c).2⟩)
      (Cert.RowSum.run_main (F := Ideal) m ρ)
  · exact (θ_run Cert.ReferenceIdeal.defs _ _).mono (fun _ h => h 0) (Cert.ReferenceIdeal.Value.run (F := Ideal) m' ρ')

/-- The five claims. -/
theorem claim : Cert.Claim :=
  ⟨Cert.Kernel.Gen.facts, Cert.KernelIdeal.Gen.facts, Cert.ReferenceIdeal.Gen.facts,
    frame_kernel, frame_ideal, frame_reference, trivial, sums_agree⟩

end Cert.Proof

end
